-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_valid_and_apart [hPre_all_valid_and_apart : Cert.Pre_all_valid_and_apart.Facts] (m : (ℓ : Loc Cert.KernelIdeal.nD Cert.KernelIdeal.τ Cert.KernelIdeal.sig) → Buf (Elt Ideal) ℓ) : Prop :=
  ∀ c : Dev Cert.KernelIdeal.nD,
    (Cert.Pre_all_valid_and_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_valid_and_apart [hPre_all_valid_and_apart : Cert.Pre_all_valid_and_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_valid_and_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_valid_and_apart [hKernelIdeal : Cert.KernelIdeal.Facts] [hPre_all_valid_and_apart : Cert.Pre_all_valid_and_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_valid_and_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_valid_and_apart [hReferenceIdeal : Cert.ReferenceIdeal.Facts] [hPre_all_valid_and_apart : Cert.Pre_all_valid_and_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_valid_and_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_all_valid_and_apart [hKernelIdeal : Cert.KernelIdeal.Facts] [hReferenceIdeal : Cert.ReferenceIdeal.Facts] [hPre_all_valid_and_apart : Cert.Pre_all_valid_and_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_valid_and_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_all_valid_and_apart : Cert.Pre_all_valid_and_apart.Facts),
    quiescent_Kernel (hKernel := hKernel)
    ∧ quiescent_KernelIdeal (hKernelIdeal := hKernelIdeal)
    ∧ quiescent_KernelIdeal_pre_all_valid_and_apart (hKernelIdeal := hKernelIdeal) (hPre_all_valid_and_apart := hPre_all_valid_and_apart)
    ∧ quiescent_ReferenceIdeal (hReferenceIdeal := hReferenceIdeal)
    ∧ quiescent_ReferenceIdeal_pre_all_valid_and_apart (hReferenceIdeal := hReferenceIdeal) (hPre_all_valid_and_apart := hPre_all_valid_and_apart)
    ∧ preserves_Kernel_KernelIdeal
    ∧ algebraic_KernelIdeal_ReferenceIdeal_pre_all_valid_and_apart (hKernelIdeal := hKernelIdeal) (hReferenceIdeal := hReferenceIdeal) (hPre_all_valid_and_apart := hPre_all_valid_and_apart)
-- ==== Pre_all_valid_and_apart.lean ====
abbrev S64x512x2048 : Shape := ⟨3, ![64, 512, 2048]⟩
abbrev S64x512x2 : Shape := ⟨3, ![64, 512, 2]⟩
abbrev S64x2 : Shape := ⟨2, ![64, 2]⟩
abbrev S64x512 : Shape := ⟨2, ![64, 512]⟩
abbrev S1x2048 : Shape := ⟨2, ![1, 2048]⟩
abbrev S1 : Shape := ⟨1, ![1]⟩
abbrev S64x1x2 : Shape := ⟨3, ![64, 1, 2]⟩
abbrev S_ : Shape := ⟨0, ![]⟩

class Facts : Prop where
  bcast_S64x2_S64x1x2_0_2 : S64x2.BroadcastsInDim S64x1x2 (![0, 2] : Fin 2 → Fin S64x1x2.rank)
  bcast_S64x1x2_S64x512x2_0_1_2 : S64x1x2.BroadcastsInDim S64x512x2 (![0, 1, 2] : Fin 3 → Fin S64x512x2.rank)
  reducesTo_S64x512_S_d0_1 : S64x512.ReducesTo [0, 1] S_
  h_S_ : 0 < S_.numel
  reducesTo_S64x512x2_S64x512_d2 : S64x512x2.ReducesTo [2] S64x512
  bcast_S_S64x512 : S_.BroadcastsInDim S64x512 (![] : Fin 0 → Fin S64x512.rank)

variable [Facts]

def fn {F : FTy → Type} [FloatOps F] (main_arg0 : FVec F S64x512x2048 .f32) (main_arg1 : FVec F S64x512x2 .f32) (main_arg2 : FVec F S64x2 .f32) (main_arg3 : IVec S64x512 1) (main_arg4 : FVec F S1x2048 .f32) (main_arg5 : FVec F S1 .f32) : IVec S_ 1 :=
  let main_v0 : FVec F S64x1x2 .f32 := broadcastInDim S64x1x2 ![0, 2] bcast_S64x2_S64x1x2_0_2 main_arg2
  let main_v1 : FVec F S64x512x2 .f32 := broadcastInDim S64x512x2 ![0, 1, 2] bcast_S64x1x2_S64x512x2_0_1_2 main_v0
  let main_v2 : FVec F S64x512x2 .f32 := subf main_arg1 main_v1
  let main_c : IVec S_ 1 := constantI S_ 1 1#1
  let main_v3 : IVec S_ 1 := (fun x v => Host.reduce IntOp.andi x v reducesTo_S64x512_S_d0_1 h_S_) main_arg3 main_c
  let main_v4 : FVec F S64x512x2 .f32 := mulf main_v2 main_v2
  let main_cst : FVec F S_ .f32 := constant S_ .f32 0x00000000#32
  let main_v5 : FVec F S64x512 .f32 := (fun x v => Host.reduceAdd x v reducesTo_S64x512x2_S64x512_d2 h_S_) main_v4 main_cst
  let main_cst_0 : FVec F S_ .f32 := constant S_ .f32 0x00000000#32
  let main_v6 : FVec F S64x512 .f32 := broadcastInDim S64x512 ![] bcast_S_S64x512 main_cst_0
  let main_v7 : IVec S64x512 1 := cmpf .ogt main_v5 main_v6
  let main_c_1 : IVec S_ 1 := constantI S_ 1 1#1
  let main_v8 : IVec S_ 1 := (fun x v => Host.reduce IntOp.andi x v reducesTo_S64x512_S_d0_1 h_S_) main_v7 main_c_1
  let main_v9 : IVec S_ 1 := andi main_v3 main_v8
  main_v9
-- ==== Kernel.lean ====
abbrev S64x512x2048 : Shape := ⟨3, ![64, 512, 2048]⟩
abbrev S64x512x2 : Shape := ⟨3, ![64, 512, 2]⟩
abbrev S64x2 : Shape := ⟨2, ![64, 2]⟩
abbrev S64x512 : Shape := ⟨2, ![64, 512]⟩
abbrev S1x2048 : Shape := ⟨2, ![1, 2048]⟩
abbrev S1 : Shape := ⟨1, ![1]⟩
abbrev S64x512x1 : Shape := ⟨3, ![64, 512, 1]⟩
abbrev S64x1x512 : Shape := ⟨3, ![64, 1, 512]⟩
abbrev S64x1 : Shape := ⟨2, ![64, 1]⟩
abbrev S64 : Shape := ⟨1, ![64]⟩
abbrev S64x1x1 : Shape := ⟨3, ![64, 1, 1]⟩
abbrev S1x1 : Shape := ⟨2, ![1, 1]⟩
abbrev S64x1x2048 : Shape := ⟨3, ![64, 1, 2048]⟩
abbrev S4x512x2048 : Shape := ⟨3, ![4, 512, 2048]⟩
abbrev S4x1x512 : Shape := ⟨3, ![4, 1, 512]⟩
abbrev S4x1x1 : Shape := ⟨3, ![4, 1, 1]⟩
abbrev S4x1x2048 : Shape := ⟨3, ![4, 1, 2048]⟩
abbrev S1x512x2048 : Shape := ⟨3, ![1, 512, 2048]⟩
abbrev S512x2048 : Shape := ⟨2, ![512, 2048]⟩
abbrev S1x512 : Shape := ⟨2, ![1, 512]⟩
abbrev S1x1x512 : Shape := ⟨3, ![1, 1, 512]⟩
abbrev S1x1x1 : Shape := ⟨3, ![1, 1, 1]⟩
abbrev S1x1x2048 : Shape := ⟨3, ![1, 1, 2048]⟩
abbrev S64x2048 : Shape := ⟨2, ![64, 2048]⟩

abbrev nBuf : Space → Nat
  | .hbm => 21
  | .vmem => 14
  | .smem => 0
  | _ => 0

abbrev bufTy : (tb : Table) → Fin (tcTables nBuf tb) → BufTy
  | .hbm, ⟨0, _⟩ => ⟨S64x512x2048, .f32⟩
  | .hbm, ⟨1, _⟩ => ⟨S64x512x2, .f32⟩
  | .hbm, ⟨2, _⟩ => ⟨S64x2, .f32⟩
  | .hbm, ⟨3, _⟩ => ⟨S64x512, .i1⟩
  | .hbm, ⟨4, _⟩ => ⟨S1x2048, .f32⟩
  | .hbm, ⟨5, _⟩ => ⟨S1, .f32⟩
  | .hbm, ⟨6, _⟩ => ⟨S64x512x1, .f32⟩
  | .hbm, ⟨7, _⟩ => ⟨S64x512, .f32⟩
  | .hbm, ⟨8, _⟩ => ⟨S64x1x512, .f32⟩
  | .hbm, ⟨9, _⟩ => ⟨S64x512x1, .f32⟩
  | .hbm, ⟨10, _⟩ => ⟨S64x512, .f32⟩
  | .hbm, ⟨11, _⟩ => ⟨S64x1x512, .f32⟩
  | .hbm, ⟨12, _⟩ => ⟨S64x1, .f32⟩
  | .hbm, ⟨13, _⟩ => ⟨S64, .f32⟩
  | .hbm, ⟨14, _⟩ => ⟨S64x1x1, .f32⟩
  | .hbm, ⟨15, _⟩ => ⟨S64x1, .f32⟩
  | .hbm, ⟨16, _⟩ => ⟨S64, .f32⟩
  | .hbm, ⟨17, _⟩ => ⟨S64x1x1, .f32⟩
  | .hbm, ⟨18, _⟩ => ⟨S1x1, .f32⟩
  | .hbm, ⟨19, _⟩ => ⟨S64x1x2048, .f32⟩
  | .hbm, ⟨20, _⟩ => ⟨S64x2048, .f32⟩
  | .local _ .vmem, ⟨0, _⟩ => ⟨S4x512x2048, .f32⟩
  | .local _ .vmem, ⟨1, _⟩ => ⟨S4x512x2048, .f32⟩
  | .local _ .vmem, ⟨2, _⟩ => ⟨S4x1x512, .f32⟩
  | .local _ .vmem, ⟨3, _⟩ => ⟨S4x1x512, .f32⟩
  | .local _ .vmem, ⟨4, _⟩ => ⟨S4x1x512, .f32⟩
  | .local _ .vmem, ⟨5, _⟩ => ⟨S4x1x512, .f32⟩
  | .local _ .vmem, ⟨6, _⟩ => ⟨S4x1x1, .f32⟩
  | .local _ .vmem, ⟨7, _⟩ => ⟨S4x1x1, .f32⟩
  | .local _ .vmem, ⟨8, _⟩ => ⟨S4x1x1, .f32⟩
  | .local _ .vmem, ⟨9, _⟩ => ⟨S4x1x1, .f32⟩
  | .local _ .vmem, ⟨10, _⟩ => ⟨S1x2048, .f32⟩
  | .local _ .vmem, ⟨11, _⟩ => ⟨S1x1, .f32⟩
  | .local _ .vmem, ⟨12, _⟩ => ⟨S4x1x2048, .f32⟩
  | .local _ .vmem, ⟨13, _⟩ => ⟨S4x1x2048, .f32⟩
  | _, _ => ⟨S64x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S64x512x2048 : Shape := ⟨3, ![64, 512, 2048]⟩
abbrev S64x512x2 : Shape := ⟨3, ![64, 512, 2]⟩
abbrev S64x2 : Shape := ⟨2, ![64, 2]⟩
abbrev S64x512 : Shape := ⟨2, ![64, 512]⟩
abbrev S1x2048 : Shape := ⟨2, ![1, 2048]⟩
abbrev S1 : Shape := ⟨1, ![1]⟩
abbrev S64x512x1 : Shape := ⟨3, ![64, 512, 1]⟩
abbrev S64x1x2 : Shape := ⟨3, ![64, 1, 2]⟩
abbrev S_ : Shape := ⟨0, ![]⟩
abbrev S64 : Shape := ⟨1, ![64]⟩
abbrev S64x1 : Shape := ⟨2, ![64, 1]⟩
abbrev S2048x1 : Shape := ⟨2, ![2048, 1]⟩
abbrev S1x1x1 : Shape := ⟨3, ![1, 1, 1]⟩
abbrev S64x1x1 : Shape := ⟨3, ![64, 1, 1]⟩
abbrev S64x2048 : Shape := ⟨2, ![64, 2048]⟩

abbrev nBuf : Space → Nat
  | .hbm => 68
  | .vmem => 0
  | .smem => 0
  | _ => 0

abbrev bufTy : (tb : Table) → Fin (tcTables nBuf tb) → BufTy
  | .hbm, ⟨0, _⟩ => ⟨S64x512x2048, .f32⟩
  | .hbm, ⟨1, _⟩ => ⟨S64x512x2, .f32⟩
  | .hbm, ⟨2, _⟩ => ⟨S64x2, .f32⟩
  | .hbm, ⟨3, _⟩ => ⟨S64x512, .i1⟩
  | .hbm, ⟨4, _⟩ => ⟨S1x2048, .f32⟩
  | .hbm, ⟨5, _⟩ => ⟨S1, .f32⟩
  | .hbm, ⟨6, _⟩ => ⟨S64x512, .f32⟩
  | .hbm, ⟨7, _⟩ => ⟨S64x512x1, .f32⟩
  | .hbm, ⟨8, _⟩ => ⟨S64x1x2, .f32⟩
  | .hbm, ⟨9, _⟩ => ⟨S64x512x2, .f32⟩
  | .hbm, ⟨10, _⟩ => ⟨S64x512x2, .f32⟩
  | .hbm, ⟨11, _⟩ => ⟨S64x512x2, .f32⟩
  | .hbm, ⟨12, _⟩ => ⟨S_, .f32⟩
  | .hbm, ⟨13, _⟩ => ⟨S64x512, .f32⟩
  | .hbm, ⟨14, _⟩ => ⟨S64x512, .f32⟩
  | .hbm, ⟨15, _⟩ => ⟨S_, .f32⟩
  | .hbm, ⟨16, _⟩ => ⟨S64x512, .f32⟩
  | .hbm, ⟨17, _⟩ => ⟨S64x512, .f32⟩
  | .hbm, ⟨18, _⟩ => ⟨S_, .f32⟩
  | .hbm, ⟨19, _⟩ => ⟨S_, .f32⟩
  | .hbm, ⟨20, _⟩ => ⟨S64x512, .f32⟩
  | .hbm, ⟨21, _⟩ => ⟨S64x512, .f32⟩
  | .hbm, ⟨22, _⟩ => ⟨S_, .f32⟩
  | .hbm, ⟨23, _⟩ => ⟨S64, .f32⟩
  | .hbm, ⟨24, _⟩ => ⟨S64x1, .f32⟩
  | .hbm, ⟨25, _⟩ => ⟨S64x512, .f32⟩
  | .hbm, ⟨26, _⟩ => ⟨S64x512, .f32⟩
  | .hbm, ⟨27, _⟩ => ⟨S64x512x1, .f32⟩
  | .hbm, ⟨28, _⟩ => ⟨S2048x1, .f32⟩
  | .hbm, ⟨29, _⟩ => ⟨S64x512x1, .f32⟩
  | .hbm, ⟨30, _⟩ => ⟨S1x1x1, .f32⟩
  | .hbm, ⟨31, _⟩ => ⟨S64x512x1, .f32⟩
  | .hbm, ⟨32, _⟩ => ⟨S64x512x1, .f32⟩
  | .hbm, ⟨33, _⟩ => ⟨S64x512x1, .f32⟩
  | .hbm, ⟨34, _⟩ => ⟨S64x512x1, .f32⟩
  | .hbm, ⟨35, _⟩ => ⟨S64x512x1, .f32⟩
  | .hbm, ⟨36, _⟩ => ⟨S_, .f32⟩
  | .hbm, ⟨37, _⟩ => ⟨S64x512x1, .f32⟩
  | .hbm, ⟨38, _⟩ => ⟨S64x512x1, .f32⟩
  | .hbm, ⟨39, _⟩ => ⟨S_, .f32⟩
  | .hbm, ⟨40, _⟩ => ⟨S64x512x1, .f32⟩
  | .hbm, ⟨41, _⟩ => ⟨S64x512x1, .f32⟩
  | .hbm, ⟨42, _⟩ => ⟨S64x512x1, .f32⟩
  | .hbm, ⟨43, _⟩ => ⟨S64x512x1, .i1⟩
  | .hbm, ⟨44, _⟩ => ⟨S_, .f32⟩
  | .hbm, ⟨45, _⟩ => ⟨S_, .f32⟩
  | .hbm, ⟨46, _⟩ => ⟨S64x512x1, .f32⟩
  | .hbm, ⟨47, _⟩ => ⟨S64x512x1, .f32⟩
  | .hbm, ⟨48, _⟩ => ⟨S_, .f32⟩
  | .hbm, ⟨49, _⟩ => ⟨S64x1, .f32⟩
  | .hbm, ⟨50, _⟩ => ⟨S_, .f32⟩
  | .hbm, ⟨51, _⟩ => ⟨S64x1, .f32⟩
  | .hbm, ⟨52, _⟩ => ⟨S64x1, .f32⟩
  | .hbm, ⟨53, _⟩ => ⟨S64x1x1, .f32⟩
  | .hbm, ⟨54, _⟩ => ⟨S64x512x1, .f32⟩
  | .hbm, ⟨55, _⟩ => ⟨S64x512x1, .f32⟩
  | .hbm, ⟨56, _⟩ => ⟨S64x512x1, .f32⟩
  | .hbm, ⟨57, _⟩ => ⟨S_, .f32⟩
  | .hbm, ⟨58, _⟩ => ⟨S64x1, .f32⟩
  | .hbm, ⟨59, _⟩ => ⟨S64x1x1, .f32⟩
  | .hbm, ⟨60, _⟩ => ⟨S64x512x1, .f32⟩
  | .hbm, ⟨61, _⟩ => ⟨S64x512x1, .f32⟩
  | .hbm, ⟨62, _⟩ => ⟨S64x512x1, .i1⟩
  | .hbm, ⟨63, _⟩ => ⟨S64x512x1, .f32⟩
  | .hbm, ⟨64, _⟩ => ⟨S64x512x2048, .f32⟩
  | .hbm, ⟨65, _⟩ => ⟨S64x512x2048, .f32⟩
  | .hbm, ⟨66, _⟩ => ⟨S_, .f32⟩
  | .hbm, ⟨67, _⟩ => ⟨S64x2048, .f32⟩
  | _, _ => ⟨S64x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Proof.Row.lean ====
module

public import Idealize.ShloMosaic.Lib.Pointwise
public import Idealize.ShloMosaic.Lib.IdealHost

@[expose] public section

set_option maxRecDepth 16384

noncomputable section

/-! # The pooling of one batch row, as a formula over the extended reals

Both programs are read into `pooled`: the value of one output entry, from the row's features, the linear layer's
weights and bias, and the squared distances of the row's stations to its target. -/

namespace Cert.Pooling

open Idealize.ShloMosaic

/-- The squared distance between two points of the plane. -/
def sqDist (x y u v : EReal) : EReal := (x - u) * (x - u) + (y - v) * (y - v)

/-- Station `s`'s inverse-square weight, normalised over the row. -/
def weight (q : Fin 512 → EReal) (s : Fin 512) : EReal :=
  Ideal.div (Ideal.div 1 (q s)) (∑ k : Fin 512, Ideal.div 1 (q k))

/-- Station `s`'s gate: the logistic function of the linear layer. -/
def gate (f : Fin 512 → Fin 2048 → EReal) (w : Fin 2048 → EReal) (b : EReal) (s : Fin 512) : EReal :=
  Ideal.logistic (∑ k : Fin 2048, w k * f s k + b)

/-- The stations' logits: each the gate times the weight. -/
def logit (f : Fin 512 → Fin 2048 → EReal) (w : Fin 2048 → EReal) (b : EReal) (q : Fin 512 → EReal) : Fin 512 → EReal :=
  fun s => gate f w b s * weight q s

/-- The largest logit of the row. -/
def peak (z : Fin 512 → EReal) : EReal := Finset.univ.fold max ⊥ z

/-- Station `s`'s share: the softmax of the logits, shifted by the largest. -/
def share (z : Fin 512 → EReal) (s : Fin 512) : EReal :=
  Ideal.div (Ideal.exp (z s - peak z)) (∑ k : Fin 512, Ideal.exp (z k - peak z))

/-- Output entry `l` of the row: the features' `l`-th column averaged by the shares. -/
def pooled (f : Fin 512 → Fin 2048 → EReal) (w : Fin 2048 → EReal) (b : EReal) (q : Fin 512 → EReal) (l : Fin 2048) : EReal :=
  ∑ s : Fin 512, share (logit f w b q) s * f s l

/-- The pooling depends on its five arguments' values only. -/
theorem pooled_congr {f f' : Fin 512 → Fin 2048 → EReal} {w w' : Fin 2048 → EReal} {b b' : EReal} {q q' : Fin 512 → EReal} {l l' : Fin 2048}
    (hf : ∀ s k, f s k = f' s k) (hw : ∀ k, w k = w' k) (hb : b = b') (hq : ∀ s, q s = q' s) (hl : l = l') :
    pooled f w b q l = pooled f' w' b' q' l' := by
  obtain rfl : f = f' := funext fun s => funext (hf s)
  obtain rfl : w = w' := funext hw
  obtain rfl : q = q' := funext hq
  rw [hb, hl]

/-- The pattern of negative infinity denotes `⊥`. -/
theorem ofBits_negInf : Ideal.ofBits .f32 0xFF800000#32 = (⊥ : EReal) := by
  show Ideal.ieee 8 23 (0xFF800000#32 : BitVec 32) = ⊥
  simp [Ideal.ieee]

/-- The pattern of minus two denotes the real number `-2`. -/
theorem ofBits_negTwo : Ideal.ofBits .f32 0xC0000000#32 = ((-2 : ℝ) : EReal) := by
  simp [Ideal.ofBits, Ideal.ieee, -EReal.coe_mul, -EReal.coe_neg]; norm_num

/-- Taking the maximum with `⊥` once more leaves the row's largest logit. -/
theorem max_bot_peak (z : Fin 512 → EReal) : max ⊥ (Finset.univ.fold max ⊥ z) = peak z :=
  max_eq_right bot_le

/-- Off the target, the distance to the power `-2` is the reciprocal of the squared distance. -/
theorem pow_sqrt (q : EReal) (h : 0 < q) : Ideal.pow (Ideal.sqrt q) ((-2 : ℝ) : EReal) = Ideal.div 1 q := by
  induction q with
  | bot => simp at h
  | top =>
    have h2 : ((-2 : ℝ) : EReal) < 0 := by exact_mod_cast (by norm_num : (-2 : ℝ) < 0)
    show (if 0 < ((-2 : ℝ) : EReal) then (⊤ : EReal) else if ((-2 : ℝ) : EReal) = 0 then 1 else 0) = _
    rw [if_neg (not_lt.2 h2.le), if_neg h2.ne]
    simp [Ideal.div]
  | coe r =>
    have hr : 0 < r := by exact_mod_cast h
    have e : Ideal.sqrt (r : EReal) = (Real.sqrt r : EReal) := if_neg (not_lt.2 hr.le)
    rw [e]
    show ((Real.rpow (Real.sqrt r) (-2) : ℝ) : EReal) = _
    have h1 : Real.rpow (Real.sqrt r) (-2) = r⁻¹ := by
      show Real.sqrt r ^ (-2 : ℝ) = r⁻¹
      rw [Real.rpow_neg (Real.sqrt_nonneg r), Real.rpow_two, Real.sq_sqrt hr.le]
    have h0 : (r : EReal) ≠ 0 := by exact_mod_cast hr.ne'
    rw [h1, Ideal.div, if_neg h0, one_mul, EReal.coe_inv]

end Cert.Pooling
-- ==== Proof.Reference.lean ====
module

public import proofs.«01_k».proof.Proof.Gen.ReferenceIdeal.Run
public import proofs.«01_k».proof.Proof.Row
public import Idealize.ShloMosaic.Lib.Pointwise

@[expose] public section

set_option maxRecDepth 16384

noncomputable section

/-! # The reference, read at an index

The reference's value is cut into its stages, each a tensor over the ones before it; each stage is read at an index
where every station is valid and off the target. -/

namespace Cert.Pooling.Ref

open Idealize.ShloMosaic Idealize.ShloMosaic.TcCoe Idealize.SL.Sem
open Cert.ReferenceIdeal Cert.ReferenceIdeal.Gen

/-- The stations' differences to their target. -/
def diff (x : FVec Ideal S64x512x2 .f32) (t : FVec Ideal S64x2 .f32) : FVec Ideal S64x512x2 .f32 :=
  subf x (broadcastInDim S64x512x2 ![0, 1, 2] bcast_S64x1x2_S64x512x2_0_1_2 (broadcastInDim S64x1x2 ![0, 2] bcast_S64x2_S64x1x2_0_2 t))

/-- The squared distances. -/
def sq (d : FVec Ideal S64x512x2 .f32) : FVec Ideal S64x512 .f32 :=
  Host.reduceAdd (mulf d d) (constant S_ .f32 0x00000000#32) reducesTo_S64x512x2_S64x512_d2 h_S_

/-- The scores: the distances to the power `-2`, zero where the mask is off. -/
def scores (k : IVec S64x512 1) (q : FVec Ideal S64x512 .f32) : FVec Ideal S64x512 .f32 :=
  select k (Host.powf (Host.sqrt q) (broadcastInDim S64x512 ![] bcast_S_S64x512 (constant S_ .f32 0xC0000000#32))) (broadcastInDim S64x512 ![] bcast_S_S64x512 (id (constant S_ .f32 0x00000000#32)))

/-- The scores over their sums. -/
def weights (s : FVec Ideal S64x512 .f32) : FVec Ideal S64x512 .f32 :=
  Host.divf s (broadcastInDim S64x512 ![0, 1] bcast_S64x1_S64x512_0_1 (broadcastInDim S64x1 ![0] bcast_S64_S64x1_0 (Host.reduceAdd s (constant S_ .f32 0x00000000#32) reducesTo_S64x512_S64_d1 h_S_)))

/-- The gates: the logistic function of the masked linear layer. -/
def gates (f : FVec Ideal S64x512x2048 .f32) (w : FVec Ideal S1x2048 .f32) (b : FVec Ideal S1 .f32) (k : IVec S64x512 1) : FVec Ideal S64x512x1 .f32 :=
  Host.divf (broadcastInDim S64x512x1 ![] bcast_S_S64x512x1 (constant S_ .f32 0x3F800000#32)) (addf (broadcastInDim S64x512x1 ![] bcast_S_S64x512x1 (constant S_ .f32 0x3F800000#32)) (Host.exp (Host.negf (mulf (addf (Host.dotGeneral dot_S64x512x2048_S2048x1_S64x512x1_2_0_01_1_n_n none f (transpose S2048x1 [1, 0] w transposes_S1x2048_S2048x1_1_0)) (broadcastInDim S64x512x1 ![0, 1, 2] bcast_S1x1x1_S64x512x1_0_1_2 (broadcastInDim S1x1x1 ![2] bcast_S1_S1x1x1_2 b))) (broadcastInDim S64x512x1 ![0, 1] bcast_S64x512_S64x512x1_0_1 (uitofp .f32 k))))))

/-- The logits: gates times weights, negative infinity where the mask is off. -/
def logits (k : IVec S64x512 1) (g : FVec Ideal S64x512x1 .f32) (v : FVec Ideal S64x512 .f32) : FVec Ideal S64x512x1 .f32 :=
  select (broadcastInDim S64x512x1 ![0, 1] bcast_S64x512_S64x512x1_0_1 k) (mulf g (broadcastInDim S64x512x1 ![0, 1] bcast_S64x512_S64x512x1_0_1 v)) (broadcastInDim S64x512x1 ![] bcast_S_S64x512x1 (id (constant S_ .f32 0xFF800000#32)))

/-- The exponentials of the logits, shifted by each row's largest. -/
def expo (z : FVec Ideal S64x512x1 .f32) : FVec Ideal S64x512x1 .f32 :=
  Host.exp (subf z (broadcastInDim S64x512x1 ![0, 1, 2] bcast_S64x1x1_S64x512x1_0_1_2 (broadcastInDim S64x1x1 ![0, 2] bcast_S64x1_S64x1x1_0_2 (maximumf (broadcastInDim S64x1 ![] bcast_S_S64x1 (constant S_ .f32 0xFF800000#32)) (Host.reduce FloatOps.maximumf z (constant S_ .f32 0xFF800000#32) reducesTo_S64x512x1_S64x1_d1 h_S_)))))

/-- The shares: the exponentials over their sums, the plain gate where the mask is off. -/
def shares (k : IVec S64x512 1) (e : FVec Ideal S64x512x1 .f32) (g : FVec Ideal S64x512x1 .f32) : FVec Ideal S64x512x1 .f32 :=
  select (broadcastInDim S64x512x1 ![0, 1] bcast_S64x512_S64x512x1_0_1 k) (Host.divf e (broadcastInDim S64x512x1 ![0, 1, 2] bcast_S64x1x1_S64x512x1_0_1_2 (broadcastInDim S64x1x1 ![0, 2] bcast_S64x1_S64x1x1_0_2 (Host.reduceAdd e (constant S_ .f32 0x00000000#32) reducesTo_S64x512x1_S64x1_d1 h_S_)))) g

/-- The pooled features. -/
def pool (f : FVec Ideal S64x512x2048 .f32) (p : FVec Ideal S64x512x1 .f32) : FVec Ideal S64x2048 .f32 :=
  Host.reduceAdd (mulf f (broadcastInDim S64x512x2048 ![0, 1, 2] bcast_S64x512x1_S64x512x2048_0_1_2 p)) (constant S_ .f32 0x00000000#32) reducesTo_S64x512x2048_S64x2048_d1 h_S_

/-- The whole reference over its six arguments. -/
def whole (f : FVec Ideal S64x512x2048 .f32) (x : FVec Ideal S64x512x2 .f32) (t : FVec Ideal S64x2 .f32) (k : IVec S64x512 1) (w : FVec Ideal S1x2048 .f32) (b : FVec Ideal S1 .f32) : FVec Ideal S64x2048 .f32 :=
  pool f (shares k (expo (logits k (gates f w b k) (weights (scores k (sq (diff x t)))))) (gates f w b k))

/-- The generated run's term is the stages composed. -/
theorem res_whole (m : (ℓ : Loc nD τ sig) → Buf (Elt Ideal) ℓ) (c : Dev nD) :
    Cert.ReferenceIdeal.Value.res_out0 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_out0 Cert.ReferenceIdeal.Value.res_main_v46
  rfl

/-- The squared distances, read at a station. -/
theorem sq_at (x : FVec Ideal S64x512x2 .f32) (t : FVec Ideal S64x2 .f32) (i : Fin 64) (s : Fin 512) :
    sq (diff x t) (ix2 i s) = sqDist (x (ix3 i s 0)) (x (ix3 i s 1)) (t (ix2 i 0)) (t (ix2 i 1)) := by
  pointwise [sq, diff, sqDist]
  exact Fin.sum_univ_two _

/-- A valid station off its target scores the reciprocal of its squared distance. -/
theorem scores_at (k : IVec S64x512 1) (hk : k = fun _ => 1#1) (q : FVec Ideal S64x512 .f32) (hq : ∀ i s, 0 < q (ix2 i s)) (i : Fin 64) (s : Fin 512) :
    scores k q (ix2 i s) = Ideal.div 1 (q (ix2 i s)) := by
  subst hk
  pointwise [scores]
  exact (congrArg (Ideal.pow _) ofBits_negTwo).trans (pow_sqrt _ (hq i s))

/-- A weight is a score over its row's sum. -/
theorem weights_at (v : FVec Ideal S64x512 .f32) (i : Fin 64) (s : Fin 512) :
    weights v (ix2 i s) = Ideal.div (v (ix2 i s)) (∑ r : Fin 512, v (ix2 i r)) := by
  pointwise [weights]

/-- With every station valid, the gates are the logistic function of the linear layer. -/
theorem gates_at (f : FVec Ideal S64x512x2048 .f32) (w : FVec Ideal S1x2048 .f32) (b : FVec Ideal S1 .f32) (k : IVec S64x512 1) (hk : k = fun _ => 1#1) (i : Fin 64) (s : Fin 512) :
    gates f w b k (ix3 i s 0) = gate (fun r l => f (ix3 i r l)) (fun l => w (ix2 0 l)) (b (ix1 0)) s := by
  subst hk
  pointwise [gates, gate]
  have h1 : (FloatOps.uitofp (F := Ideal) .f32 1#1 : EReal) = 1 := by
    simp [FloatOps.uitofp]
  have hs : ∑ l, f (ix3 i s l) * w (ix2 0 l) = ∑ l, w (ix2 0 l) * f (ix3 i s l) := Finset.sum_congr rfl fun l _ => mul_comm _ _
  rw [h1, mul_one, hs]
  rfl

/-- With every station valid, a logit is the gate times the weight. -/
theorem logits_at (k : IVec S64x512 1) (hk : k = fun _ => 1#1) (g : FVec Ideal S64x512x1 .f32) (v : FVec Ideal S64x512 .f32) (i : Fin 64) (s : Fin 512) :
    logits k g v (ix3 i s 0) = g (ix3 i s 0) * v (ix2 i s) := by
  subst hk
  pointwise [logits]

/-- The exponentials, read at a station. -/
theorem expo_at (z : FVec Ideal S64x512x1 .f32) (i : Fin 64) (s : Fin 512) :
    expo z (ix3 i s 0) = Ideal.exp (z (ix3 i s 0) - peak fun r => z (ix3 i r 0)) := by
  pointwise [expo, ofBits_negInf]
  rw [max_bot_peak]

/-- With every station valid, a share is an exponential over its row's sum. -/
theorem shares_at (k : IVec S64x512 1) (hk : k = fun _ => 1#1) (e g : FVec Ideal S64x512x1 .f32) (i : Fin 64) (s : Fin 512) :
    shares k e g (ix3 i s 0) = Ideal.div (e (ix3 i s 0)) (∑ r : Fin 512, e (ix3 i r 0)) := by
  subst hk
  pointwise [shares]

/-- The pooled features, read at an output entry. -/
theorem pool_at (f : FVec Ideal S64x512x2048 .f32) (p : FVec Ideal S64x512x1 .f32) (i : Fin 64) (l : Fin 2048) :
    pool f p (ix2 i l) = ∑ s : Fin 512, p (ix3 i s 0) * f (ix3 i s l) := by
  pointwise [pool]
  exact Finset.sum_congr rfl fun s _ => mul_comm _ _

/-- THE REFERENCE, where every station is valid and off its target: each output entry is the row's pooling. -/
theorem whole_at (f : FVec Ideal S64x512x2048 .f32) (x : FVec Ideal S64x512x2 .f32) (t : FVec Ideal S64x2 .f32) (k : IVec S64x512 1) (w : FVec Ideal S1x2048 .f32) (b : FVec Ideal S1 .f32)
    (hk : k = fun _ => 1#1) (hq : ∀ i s, 0 < sq (diff x t) (ix2 i s)) (i : Fin 64) (l : Fin 2048) :
    whole f x t k w b (ix2 i l)
      = pooled (fun s l => f (ix3 i s l)) (fun l => w (ix2 0 l)) (b (ix1 0)) (fun s => sqDist (x (ix3 i s 0)) (x (ix3 i s 1)) (t (ix2 i 0)) (t (ix2 i 1))) l := by
  unfold whole
  rw [pool_at]
  refine Finset.sum_congr rfl fun s _ => congrArg (· * f (ix3 i s l)) ?_
  have hz : ∀ r : Fin 512, logits k (gates f w b k) (weights (scores k (sq (diff x t)))) (ix3 i r 0)
      = logit (fun s l => f (ix3 i s l)) (fun l => w (ix2 0 l)) (b (ix1 0)) (fun s => sqDist (x (ix3 i s 0)) (x (ix3 i s 1)) (t (ix2 i 0)) (t (ix2 i 1))) r := fun r => by
    rw [logits_at k hk, gates_at f w b k hk, weights_at]
    simp only [scores_at k hk _ hq, sq_at]
    rfl
  rw [shares_at k hk]
  simp only [expo_at, hz]
  rfl

end Cert.Pooling.Ref
-- ==== Proof.Precondition.lean ====
module

public import proofs.«01_k».proof.Proof.Gen.Pre_all_valid_and_apart
public import proofs.«01_k».proof.Proof.Reference
public import Idealize.ShloMosaic.Lib.ReduceAll

@[expose] public section

set_option maxRecDepth 16384

noncomputable section

/-! # The precondition, read back: every station is valid and off its target -/

namespace Cert.Pooling.Pre

open Idealize.ShloMosaic Cert.Pre_all_valid_and_apart Cert.Pre_all_valid_and_apart.Gen

/-- Where the precondition's value is one, the mask is on at every station and every squared distance is positive. -/
theorem read (f : FVec Ideal S64x512x2048 .f32) (x : FVec Ideal S64x512x2 .f32) (t : FVec Ideal S64x2 .f32) (k : IVec S64x512 1) (w : FVec Ideal S1x2048 .f32) (b : FVec Ideal S1 .f32)
    (h : Cert.Pre_all_valid_and_apart.fn (F := Ideal) f x t k w b = fun _ => 1#1) :
    (k = fun _ => 1#1) ∧ ∀ i s, 0 < Cert.Pooling.Ref.sq (Cert.Pooling.Ref.diff x t) (ix2 i s) := by
  have : Subsingleton S_.Idx := ⟨fun a b => funext fun d => d.elim0⟩
  obtain ⟨h1, h2⟩ := IntOp.andi_eq_one.1 (congrFun h (fun d => d.elim0))
  refine ⟨funext fun j => Host.reduce_andi_all _ _ _ _ _ h1 j, fun i s => ?_⟩
  have h3 := Host.reduce_andi_all _ _ _ _ _ h2 (ix2 i s)
  have h4 : Ideal.cmp .ogt (Cert.Pooling.Ref.sq (Cert.Pooling.Ref.diff x t) (ix2 i s)) (Ideal.ofBits .f32 0x00000000#32) = 1#1 := h3
  rw [Ideal.ofBits_zero_f32] at h4
  by_contra hn
  simp [Ideal.cmp, hn] at h4

end Cert.Pooling.Pre
-- ==== Proof.Block.lean ====
module

public import proofs.«01_k».proof.Proof.Gen.KernelIdeal.Frame
public import proofs.«01_k».proof.Proof.Row
public import Idealize.ShloMosaic.Lib.Pipeline.ValueKit

@[expose] public section

set_option maxRecDepth 16384

noncomputable section

namespace Cert.Pooling

open Idealize.ShloMosaic Idealize.ShloMosaic.TcCoe Idealize.SL.Sem
open Cert.KernelIdeal Cert.KernelIdeal.Gen

/-- What the body leaves in the output block, read at an index: the pooling of the block's row there. -/
theorem block (x0 : FVec Ideal S4x512x2048 .f32) (x1 x2 : FVec Ideal S4x1x512 .f32) (x3 x4 : FVec Ideal S4x1x1 .f32) (x5 : FVec Ideal S1x2048 .f32) (x6 : FVec Ideal S1x1 .f32)
    (r : Fin 4) (l : Fin 2048) :
    out0_7 (F := Ideal) x0 x1 x2 x3 x4 x5 x6 (ix3 r 0 l)
      = pooled (fun s k => x0 (ix3 r s k)) (fun k => x5 (ix2 0 k)) (x6 (ix2 0 0)) (fun s => sqDist (x1 (ix3 r 0 s)) (x2 (ix3 r 0 s)) (x3 (ix3 r 0 0)) (x4 (ix3 r 0 0))) l := by
  unfold out0_7
  canon_tiles x h <;> idx_vars x
  case piece0 =>
    have hr : r = 3 := Fin.ext (by have h : (r : ℕ) = 3 + (x0 : ℕ) := h0; show (r : ℕ) = 3; omega)
    have hl : l = x2 := Fin.ext h2
    subst hr hl
    pointwise [k0_pay1, k0_pay16, k0_pay17, k0_pay18]
    simp only [ofBits_negInf]
    rfl
  case piece1 =>
    have hr : r = 2 := Fin.ext (by have h : (r : ℕ) = 2 + (x0 : ℕ) := h0; show (r : ℕ) = 2; omega)
    have hl : l = x2 := Fin.ext h2
    subst hr hl
    pointwise [k0_pay10, k0_pay11, k0_pay12, k0_pay13, k0_pay14, k0_pay15]
    simp only [ofBits_negInf]
    rfl
  case piece2 =>
    have hr : r = 1 := Fin.ext (by have h : (r : ℕ) = 1 + (x0 : ℕ) := h0; show (r : ℕ) = 1; omega)
    have hl : l = x2 := Fin.ext h2
    subst hr hl
    pointwise [k0_pay5, k0_pay6, k0_pay7, k0_pay8, k0_pay9]
    simp only [ofBits_negInf]
    rfl
  case piece3 =>
    have hr : r = 0 := Fin.ext (by have h : (r : ℕ) = (x0 : ℕ) := h0; show (r : ℕ) = 0; omega)
    have hl : l = x2 := Fin.ext h2
    subst hr hl
    pointwise [k0_pay2, k0_pay3, k0_pay4]
    simp only [ofBits_negInf]
    rfl

end Cert.Pooling
-- ==== Proof.Value.lean ====
module

public import proofs.«01_k».proof.Proof.Block

@[expose] public section

set_option maxRecDepth 16384

noncomputable section

/-! # The kernel's result after the run -/

namespace Cert.Pooling.Kern

open Idealize.ShloMosaic Idealize.ShloMosaic.TcCoe Idealize.SL.Sem
open Idealize.ShloMosaic.Pipeline (Dat)
open Cert.KernelIdeal Cert.KernelIdeal.Gen

/-- One output entry over the kernel's six arguments: row `i`'s pooling at column `l`. -/
def entry (f : FVec Ideal S64x512x2048 .f32) (x : FVec Ideal S64x512x2 .f32) (t : FVec Ideal S64x2 .f32) (w : FVec Ideal S1x2048 .f32) (b : FVec Ideal S1 .f32)
    (i : Fin 64) (l : Fin 2048) : EReal :=
  pooled (fun s l => f (ix3 i s l)) (fun l => w (ix2 0 l)) (b (ix1 0)) (fun s => sqDist (x (ix3 i s 0)) (x (ix3 i s 1)) (t (ix2 i 0)) (t (ix2 i 1))) l

/-- The pipeline's output array over the arguments. -/
def rows (f : FVec Ideal S64x512x2048 .f32) (x : FVec Ideal S64x512x2 .f32) (t : FVec Ideal S64x2 .f32) (w : FVec Ideal S1x2048 .f32) (b : FVec Ideal S1 .f32) : FVec Ideal S64x1x2048 .f32 :=
  fun j => entry f x t w b (j 0) (j 2)

variable (m : (ℓ : Loc nD τ sig) → Buf (Elt Ideal) ℓ)

/-- The windows' block indices at every grid point. -/
theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![0, 0] ∧ win0_6.index t = ![0, 0] ∧ win0_7.index t = ![t.val, 0, 0] :=
  (by decide +kernel : ∀ t : Fin grid0.N, _)

/-- The first coordinates' operand as the region finds it. -/
theorem found_v2 (c : Dev nD) (i : Fin 64) (s : Fin 512) :
    (V m c main_v2 : FVec Ideal S64x1x512 .f32) (ix3 i 0 s) = (m ((c : Thread nD τ).loc main_arg1) : FVec Ideal S64x512x2 .f32) (ix3 i s 0) := by
  simp only [V, V0, hostOps0, List.flatten_cons, List.flatten_nil, List.append_nil]
  after_results_simp
  pointwise

/-- The second coordinates' operand as the region finds it. -/
theorem found_v5 (c : Dev nD) (i : Fin 64) (s : Fin 512) :
    (V m c main_v5 : FVec Ideal S64x1x512 .f32) (ix3 i 0 s) = (m ((c : Thread nD τ).loc main_arg1) : FVec Ideal S64x512x2 .f32) (ix3 i s 1) := by
  simp only [V, V0, hostOps0, List.flatten_cons, List.flatten_nil, List.append_nil]
  after_results_simp
  pointwise

/-- The targets' first coordinates as the region finds them. -/
theorem found_v8 (c : Dev nD) (i : Fin 64) :
    (V m c main_v8 : FVec Ideal S64x1x1 .f32) (ix3 i 0 0) = (m ((c : Thread nD τ).loc main_arg2) : FVec Ideal S64x2 .f32) (ix2 i 0) := by
  simp only [V, V0, hostOps0, List.flatten_cons, List.flatten_nil, List.append_nil]
  after_results_simp
  pointwise

/-- The targets' second coordinates as the region finds them. -/
theorem found_v11 (c : Dev nD) (i : Fin 64) :
    (V m c main_v11 : FVec Ideal S64x1x1 .f32) (ix3 i 0 0) = (m ((c : Thread nD τ).loc main_arg2) : FVec Ideal S64x2 .f32) (ix2 i 1) := by
  simp only [V, V0, hostOps0, List.flatten_cons, List.flatten_nil, List.append_nil]
  after_results_simp
  pointwise

/-- The bias as the region finds it. -/
theorem found_v12 (c : Dev nD) :
    (V m c main_v12 : FVec Ideal S1x1 .f32) (ix2 0 0) = (m ((c : Thread nD τ).loc main_arg5) : FVec Ideal S1 .f32) (ix1 0) := by
  simp only [V, V0, hostOps0, List.flatten_cons, List.flatten_nil, List.append_nil]
  after_results_simp
  pointwise

/-- The array row which block row `r` of grid point `t` is. -/
def row (t : Fin cfg0.N) (r : Fin 4) : Fin 64 := ⟨t.val * 4 + r.val, by have := lt_of_lt_of_eq t.isLt N_0; omega⟩

/-- What the body leaves in the output block is the array's formula at the place the block has in the array. -/
theorem point (c : Dev nD) (t : Fin cfg0.N) (y : S4x1x2048.Idx) :
    out0_7 (F := Ideal) (iblk m c 0 t) (iblk m c 1 t) (iblk m c 2 t) (iblk m c 3 t) (iblk m c 4 t) (iblk m c 5 t) (iblk m c 6 t) y
      = rows (m ((c : Thread nD τ).loc main_arg0)) (m ((c : Thread nD τ).loc main_arg1)) (m ((c : Thread nD τ).loc main_arg2)) (m ((c : Thread nD τ).loc main_arg4)) (m ((c : Thread nD τ).loc main_arg5))
          (((cfg0.win 7).blk t).view.emb y) := by
  have hy : y = ix3 (y 0) 0 (y 2) := by
    idx_vars y
    idx_ext
  have e0 : ∀ s k, ((cfg0.win 0).blk t).view.emb (ix3 (y 0) s k : S4x512x2048.Idx) = ix3 (row t (y 0)) s k := fun s k => by
    blk_ext [row, idx t]
  have e1 : ∀ s, ((cfg0.win 1).blk t).view.emb (ix3 (y 0) 0 s : S4x1x512.Idx) = ix3 (row t (y 0)) 0 s := fun s => by
    blk_ext [row, idx t]
  have e2 : ∀ s, ((cfg0.win 2).blk t).view.emb (ix3 (y 0) 0 s : S4x1x512.Idx) = ix3 (row t (y 0)) 0 s := fun s => by
    blk_ext [row, idx t]
  have e3 : ((cfg0.win 3).blk t).view.emb (ix3 (y 0) 0 0 : S4x1x1.Idx) = ix3 (row t (y 0)) 0 0 := by
    blk_ext [row, idx t]
  have e4 : ((cfg0.win 4).blk t).view.emb (ix3 (y 0) 0 0 : S4x1x1.Idx) = ix3 (row t (y 0)) 0 0 := by
    blk_ext [row, idx t]
  have e6 : ((cfg0.win 6).blk t).view.emb (ix2 0 0 : S1x1.Idx) = ix2 0 0 := by
    blk_ext [idx t]
  have e7 : ((cfg0.win 7).blk t).view.emb (ix3 (y 0) 0 (y 2) : S4x1x2048.Idx) = ix3 (row t (y 0)) 0 (y 2) := by
    blk_ext [row, idx t]
  rw [hy]
  refine (block _ _ _ _ _ _ _ _ _).trans (Eq.trans ?_ (congrArg (rows _ _ _ _ _) e7).symm)
  refine pooled_congr (fun s k => ?_) (fun k => ?_) ?_ (fun s => congr (congr (congr (congrArg sqDist ?_) ?_) ?_) ?_) rfl
  · exact (congrArg (V m c main_arg0) (e0 s k)).trans (congrFun (V_main_arg0 m c) _)
  · blk_point [iblk, V, idx t]
  · exact (congrArg (V m c main_v12) e6).trans (found_v12 m c)
  · exact (congrArg (V m c main_v2) (e1 s)).trans (found_v2 m c _ s)
  · exact (congrArg (V m c main_v5) (e2 s)).trans (found_v5 m c _ s)
  · exact (congrArg (V m c main_v8) e3).trans (found_v8 m c _)
  · exact (congrArg (V m c main_v11) e4).trans (found_v11 m c _)

/-- The pipeline's output array after the run. -/
theorem final (c : Dev nD) : (dats m 0 c).arrAt 7 (cfgs 0).N
    = rows (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 7 _ (by decide +kernel) fun t _ y => ?_
  blk_simp
  rw [after0_7]
  exact point m c t y

/-- The result over the arguments: the output array without its unit axis. -/
def result (f : FVec Ideal S64x512x2048 .f32) (x : FVec Ideal S64x512x2 .f32) (t : FVec Ideal S64x2 .f32) (w : FVec Ideal S1x2048 .f32) (b : FVec Ideal S1 .f32) : FVec Ideal S64x2048 .f32 :=
  shapeCast S64x2048 (rows f x t w b) shapeCasts_S64x1x2048_S64x2048

/-- The result, read at an entry. -/
theorem result_at (f : FVec Ideal S64x512x2048 .f32) (x : FVec Ideal S64x512x2 .f32) (t : FVec Ideal S64x2 .f32) (w : FVec Ideal S1x2048 .f32) (b : FVec Ideal S1 .f32) (i : Fin 64) (l : Fin 2048) :
    result f x t w b (ix2 i l) = entry f x t w b i l := by
  pointwise [result, rows]

/-- The result buffer as the line after the region leaves it. -/
theorem tail_v14 (c : Dev nD) : Pipeline.afterTail₀ cfgs (dats m) 0 (V0 m) [hostOps1] c main_v14
    = result (m ((c : Thread nD τ).loc main_arg0)) (m ((c : Thread nD τ).loc main_arg1)) (m ((c : Thread nD τ).loc main_arg2)) (m ((c : Thread nD τ).loc main_arg4)) (m ((c : Thread nD τ).loc main_arg5)) := by
  unfold Pipeline.afterTail₀
  simp only [hostOps1, List.flatten_cons, List.flatten_nil, List.append_nil]
  after_results_simp
  funext i
  refine congrFun (congrArg (fun v => shapeCast S64x2048 v shapeCasts_S64x1x2048_S64x2048) ?_) i
  exact (Pipeline.withArrays_arr (cfgs 0).spec launch0.win.arr_inj c (V0 m c) _ 7).trans (final m c)

/-- THE RUN: the result buffer ends at the result, the arguments as launched. -/
theorem run (ρ : Dev nD → PrngReg) : θ_run defs (onTc (τ := τ) (main (F := Ideal))) (s₀ m ρ) (fun r => ∀ c : Dev nD,
      r.2.mem ((c : Thread nD τ).loc main_v14)
        = result (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c => ⟨(h.1.rest_eq c main_v14 (Pipeline.mem_restRefs_of main_v14 (by decide) (by decide))).trans (tail_v14 m c), h.2 c⟩)
    (θ_run_and (run_main m ρ) (unchanged m ρ))

end Cert.Pooling.Kern
-- ==== Proof.lean ====
/- The claims of the statement, put together: both printed kernels and the reference run and give their arguments back, and
   the kernel's one result is the reference's where every station is valid and apart from its target. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_all_valid_and_apart
public import proofs.«01_k».proof.Proof.Reference
public import proofs.«01_k».proof.Proof.Precondition
public import proofs.«01_k».proof.Proof.Value
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal (S64x512x2048 S64x512x2 S64x2 S64x512 S1x2048 S1 S64x2048)

/-- Under the precondition the reference's tensor is the kernel's. -/
theorem same (f : FVec Ideal S64x512x2048 .f32) (x : FVec Ideal S64x512x2 .f32) (t : FVec Ideal S64x2 .f32) (k : IVec S64x512 1) (w : FVec Ideal S1x2048 .f32) (b : FVec Ideal S1 .f32)
    (h : Cert.Pre_all_valid_and_apart.fn (F := Ideal) f x t k w b = fun _ => 1#1) :
    Cert.Pooling.Ref.whole f x t k w b = Cert.Pooling.Kern.result f x t w b := by
  obtain ⟨hk, hq⟩ := Cert.Pooling.Pre.read f x t k w b h
  funext j
  have hj : j = ix2 (j 0) (j 1) := eq_ix2 j
  refine (congrArg (Cert.Pooling.Ref.whole f x t k w b) hj).trans (Eq.trans ?_ (congrArg (Cert.Pooling.Kern.result f x t w b) hj).symm)
  exact (Cert.Pooling.Ref.whole_at f x t k w b hk hq (j 0) (j 1)).trans (Cert.Pooling.Kern.result_at f x t w b (j 0) (j 1)).symm

/-- The reference gives its arguments back, every counter at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

/-- Where every station is valid and apart from its target, the kernel and the reference end with one result. -/
theorem algebraic : Cert.algebraic_KernelIdeal_ReferenceIdeal_pre_all_valid_and_apart := fun m g m' g' hpre hagree =>
  ⟨_, Cert.Pooling.Kern.run m g,
    (θ_run _ _ _).mono (fun r h c => ⟨by
      obtain ⟨e0, e1, e2, e3, e4, e5⟩ := hagree c
      refine (h c).1.trans ((Cert.Pooling.Ref.res_whole m' c).trans ?_)
      rw [e0, e1, e2, e3, e4, e5]
      exact same _ _ _ _ _ _ (hpre c), (h c).2⟩) (Cert.ReferenceIdeal.Value.run m' g')⟩

/-- All the claims. -/
theorem claim : Cert.Claim :=
  ⟨Cert.Kernel.Gen.facts, Cert.KernelIdeal.Gen.facts, Cert.ReferenceIdeal.Gen.facts, Cert.Pre_all_valid_and_apart.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
